-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_KernelIdeal_ReferenceIdeal_on_y_pred_everywhere [hKernelIdeal : Cert.KernelIdeal.Facts] [hReferenceIdeal : Cert.ReferenceIdeal.Facts] [hOn_y_pred_everywhere : Cert.On_y_pred_everywhere.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨0, ![]⟩ : Shape).Idx, (Cert.On_y_pred_everywhere.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v0_0) i = v0 c i)
          ∧ (∀ i : (⟨2, ![16384, 1000]⟩ : Shape).Idx, (Cert.On_y_pred_everywhere.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨0, ![]⟩ : Shape).Idx, (Cert.On_y_pred_everywhere.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v28) i = v0 c i)
          ∧ (∀ i : (⟨2, ![16384, 1000]⟩ : Shape).Idx, (Cert.On_y_pred_everywhere.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.ReferenceIdeal.nD Cert.ReferenceIdeal.τ).loc Cert.ReferenceIdeal.main_v11) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts) (hOn_y_pred_everywhere : Cert.On_y_pred_everywhere.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ algebraic_KernelIdeal_ReferenceIdeal_on_y_pred_everywhere (hKernelIdeal := hKernelIdeal) (hReferenceIdeal := hReferenceIdeal) (hOn_y_pred_everywhere := hOn_y_pred_everywhere)
-- ==== On_y_pred_everywhere.lean ====
abbrev S_ : Shape := ⟨0, ![]⟩
abbrev S16384x1000 : Shape := ⟨2, ![16384, 1000]⟩

class Facts : Prop where
  bcast_S_S16384x1000 : S_.BroadcastsInDim S16384x1000 (![] : Fin 0 → Fin S16384x1000.rank)

variable [Facts]

def fn {F : FTy → Type} [FloatOps F] (main_arg0 : IVec S_ 32) (main_arg1 : FVec F S16384x1000 .f32) (main_arg2 : FVec F S16384x1000 .f32) : IVec S_ 1 × IVec S16384x1000 1 :=
  let main_c : IVec S_ 1 := constantI S_ 1 1#1
  let main_v0 : IVec S16384x1000 1 := broadcastInDim S16384x1000 ![] bcast_S_S16384x1000 main_c
  let main_c_0 : IVec S_ 1 := constantI S_ 1 0#1
  (main_c_0, main_v0)
-- ==== Pre_finite.lean ====
abbrev S_ : Shape := ⟨0, ![]⟩
abbrev S16384x1000 : Shape := ⟨2, ![16384, 1000]⟩

class Facts : Prop where
  bcast_S_S16384x1000 : S_.BroadcastsInDim S16384x1000 (![] : Fin 0 → Fin S16384x1000.rank)

variable [Facts]

def fn {F : FTy → Type} [FloatOps F] (main_arg0 : IVec S_ 32) (main_arg1 : FVec F S16384x1000 .f32) (main_arg2 : FVec F S16384x1000 .f32) : IVec S16384x1000 1 :=
  let main_v0 : FVec F S16384x1000 .f32 := Host.absf main_arg1
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_v3 : FVec F S16384x1000 .f32 := Host.absf main_arg2
  let main_cst_0 : FVec F S_ .f32 := constant S_ .f32 0x7F800000#32
  let main_v4 : FVec F S16384x1000 .f32 := broadcastInDim S16384x1000 ![] bcast_S_S16384x1000 main_cst_0
  let main_v5 : IVec S16384x1000 1 := cmpf .olt main_v3 main_v4
  let main_v6 : IVec S16384x1000 1 := andi main_v2 main_v5
  main_v6
-- ==== Kernel.lean ====
abbrev S_ : Shape := ⟨0, ![]⟩
abbrev S16384x1000 : Shape := ⟨2, ![16384, 1000]⟩
abbrev S1 : Shape := ⟨1, ![1]⟩
abbrev S512x1000 : Shape := ⟨2, ![512, 1000]⟩
abbrev S512 : Shape := ⟨1, ![512]⟩
abbrev S512x1 : Shape := ⟨2, ![512, 1]⟩
abbrev S1x512x1 : Shape := ⟨3, ![1, 512, 1]⟩
abbrev S1x1x1 : Shape := ⟨3, ![1, 1, 1]⟩
abbrev S1x512x1000 : Shape := ⟨3, ![1, 512, 1000]⟩

abbrev nBuf : Space → Nat
  | .hbm => 6
  | .vmem => 6
  | .smem => 2
  | _ => 0

abbrev bufTy : (tb : Table) → Fin (tcTables nBuf tb) → BufTy
  | .hbm, ⟨0, _⟩ => ⟨S_, .i32⟩
  | .hbm, ⟨1, _⟩ => ⟨S16384x1000, .f32⟩
  | .hbm, ⟨2, _⟩ => ⟨S16384x1000, .f32⟩
  | .hbm, ⟨3, _⟩ => ⟨S16384x1000, .f32⟩
  | .hbm, ⟨4, _⟩ => ⟨S1, .f32⟩
  | .hbm, ⟨5, _⟩ => ⟨S_, .f32⟩
  | .local _ .vmem, ⟨0, _⟩ => ⟨S512x1000, .f32⟩
  | .local _ .vmem, ⟨1, _⟩ => ⟨S512x1000, .f32⟩
  | .local _ .vmem, ⟨2, _⟩ => ⟨S512x1000, .f32⟩
  | .local _ .vmem, ⟨3, _⟩ => ⟨S512x1000, .f32⟩
  | .local _ .vmem, ⟨4, _⟩ => ⟨S512x1000, .f32⟩
  | .local _ .vmem, ⟨5, _⟩ => ⟨S512x1000, .f32⟩
  | .local _ .smem, ⟨0, _⟩ => ⟨S1, .f32⟩
  | .local _ .smem, ⟨1, _⟩ => ⟨S1, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_1 : Ref sig .tc := ⟨.hbm, 3, rfl⟩
abbrev main_call0_v0_1 : Ref sig .tc := ⟨.hbm, 4, rfl⟩
abbrev main_v0_0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v37 : BitVec 1 := Scalar.cmpi .eq arg0 c31_i32
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S_ : Shape := ⟨0, ![]⟩
abbrev S16384x1000 : Shape := ⟨2, ![16384, 1000]⟩
abbrev S16384 : Shape := ⟨1, ![16384]⟩
abbrev S16384x1 : Shape := ⟨2, ![16384, 1]⟩

abbrev nBuf : Space → Nat
  | .hbm => 66
  | .vmem => 0
  | .smem => 0
  | _ => 0

abbrev bufTy : (tb : Table) → Fin (tcTables nBuf tb) → BufTy
  | .hbm, ⟨0, _⟩ => ⟨S_, .i32⟩
  | .hbm, ⟨1, _⟩ => ⟨S16384x1000, .f32⟩
  | .hbm, ⟨2, _⟩ => ⟨S16384x1000, .f32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S16384x1, .f32⟩
  | .hbm, ⟨9, _⟩ => ⟨S16384x1000, .f32⟩
  | .hbm, ⟨10, _⟩ => ⟨S16384x1000, .f32⟩
  | .hbm, ⟨11, _⟩ => ⟨S16384x1000, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x1000, .f32⟩
  | .hbm, ⟨16, _⟩ => ⟨S16384x1000, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16384x1000, .f32⟩
  | .hbm, ⟨21, _⟩ => ⟨S16384x1000, .f32⟩
  | .hbm, ⟨22, _⟩ => ⟨S_, .f32⟩
  | .hbm, ⟨23, _⟩ => ⟨S16384x1000, .f32⟩
  | .hbm, ⟨24, _⟩ => ⟨S16384x1000, .f32⟩
  | .hbm, ⟨25, _⟩ => ⟨S_, .f32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384x1, .f32⟩
  | .hbm, ⟨31, _⟩ => ⟨S16384x1000, .f32⟩
  | .hbm, ⟨32, _⟩ => ⟨S16384x1000, .f32⟩
  | .hbm, ⟨33, _⟩ => ⟨S16384x1000, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x1, .f32⟩
  | .hbm, ⟨38, _⟩ => ⟨S16384x1000, .f32⟩
  | .hbm, ⟨39, _⟩ => ⟨S16384x1000, .f32⟩
  | .hbm, ⟨40, _⟩ => ⟨S16384x1000, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S16384x1000, .f32⟩
  | .hbm, ⟨50, _⟩ => ⟨S16384x1000, .f32⟩
  | .hbm, ⟨51, _⟩ => ⟨S_, .f32⟩
  | .hbm, ⟨52, _⟩ => ⟨S16384, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S16384, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_call1_cst : Ref sig .tc := ⟨.hbm, 25, rfl⟩
abbrev main_call1_v0 : Ref sig .tc := ⟨.hbm, 26, rfl⟩
abbrev main_call1_cst_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_cst_1 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_v12 : Ref sig .tc := ⟨.hbm, 39, rfl⟩
abbrev main_v13 : Ref sig .tc := ⟨.hbm, 40, rfl⟩
abbrev main_cst_4 : Ref sig .tc := ⟨.hbm, 41, rfl⟩
abbrev main_v14 : Ref sig .tc := ⟨.hbm, 42, rfl⟩
abbrev main_v15 : Ref sig .tc := ⟨.hbm, 43, rfl⟩
abbrev main_cst_5 : Ref sig .tc := ⟨.hbm, 44, rfl⟩
abbrev main_v16 : Ref sig .tc := ⟨.hbm, 45, rfl⟩
abbrev main_cst_6 : Ref sig .tc := ⟨.hbm, 46, rfl⟩
abbrev main_v17 : Ref sig .tc := ⟨.hbm, 47, rfl⟩
abbrev main_cst_7 : Ref sig .tc := ⟨.hbm, 48, rfl⟩
abbrev main_v18 : Ref sig .tc := ⟨.hbm, 49, rfl⟩
abbrev main_v19 : Ref sig .tc := ⟨.hbm, 50, rfl⟩
abbrev main_cst_8 : Ref sig .tc := ⟨.hbm, 51, rfl⟩
abbrev main_v20 : Ref sig .tc := ⟨.hbm, 52, rfl⟩
abbrev main_cst_9 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_10 : Ref sig .tc := ⟨.hbm, 57, rfl⟩
abbrev main_v24 : Ref sig .tc := ⟨.hbm, 58, rfl⟩
abbrev main_cst_11 : Ref sig .tc := ⟨.hbm, 59, rfl⟩
abbrev main_v25 : Ref sig .tc := ⟨.hbm, 60, rfl⟩
abbrev main_cst_12 : Ref sig .tc := ⟨.hbm, 61, rfl⟩
abbrev main_v26 : Ref sig .tc := ⟨.hbm, 62, rfl⟩
abbrev main_cst_13 : Ref sig .tc := ⟨.hbm, 63, rfl⟩
abbrev main_v27 : Ref sig .tc := ⟨.hbm, 64, rfl⟩
abbrev main_v28 : Ref sig .tc := ⟨.hbm, 65, rfl⟩

abbrev nD : Nat := 1
abbrev τ : Topo := Topo.v7x

variable {F : FTy → Type} [FloatOps F]
-- ==== Proof.Body.lean ====
/-
  What one grid point of the kernel leaves behind, as values of the blocks it reads.

  At each point the body reads a block of 512 rows of logits and a block of 512 rows of labels. It writes the clipped
  softmax of the logits over the block of the second result, and adds the block's cross entropy to a one-word running
  sum. The first point starts that sum from zero; the last point also writes the sum, scaled, to the one-word loss.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.SL.Sem

variable {F : FTy → Type} [FloatOps F]

/-- Both offsets of a whole two-axis block are zero. -/
theorem off2 : (![0, 0] : Fin 2 → Nat) = fun _ => 0 := funext fun a => by fin_cases a <;> rfl

/-- The offset of a whole one-axis block is zero. -/
theorem off1 : (![0] : Fin 1 → Nat) = fun _ => 0 := funext fun a => by fin_cases a; rfl

/-- The one index of a one-word buffer. -/
abbrev word : S1.Idx := Shape.Idx.first (by decide : 0 < S1.numel)

section Cases

variable (c : Dev nD) (i : grid0.Coords)
  (a1 : Memref sig .tc .vmem S512x1000 .f32) (h1 : a1.IsWhole) (a2 : Memref sig .tc .vmem S512x1000 .f32) (h2 : a2.IsWhole)
  (a3 : Memref sig .tc .vmem S512x1000 .f32) (h3 : a3.IsWhole) (a4 : Memref sig .tc .smem S1 .f32) (h4 : a4.IsWhole)
  (a5 : Memref sig .tc .smem S1 .f32) (h5 : a5.IsWhole)

/-- The first point leaves the clipped softmax of its block of logits. -/
theorem first_pred (hc0 : cond0_0 i) (hc1 : ¬cond0_1 i) (x y : Vec F S512x1000 .f32) :
    out0_A_2 c i a1 h1 a2 h2 a3 h3 a4 h4 a5 h5 hc0 hc1 x y = k0_pay5 x := by
  unfold out0_A_2
  rw [View.read_writes_eq_canon _ _ _ (cover0_A_2 c i a1 h1 a2 h2 a3 h3 a4 h4 a5 h5 hc0 hc1 x y)]
  unfold kernelRun0_A
  dsimp only
  sl_unfold_words
  rw [View.canon_unit_zero off2]
  simp only [View.readAt_eq_ld, h1.read_unread, h2.read_unread, View.ld_unit_zero (S := S512x1000) off2]

/-- The first point leaves in the running sum zero plus its block's cross entropy. -/
theorem first_sum (hc0 : cond0_0 i) (hc1 : ¬cond0_1 i) (x y : Vec F S512x1000 .f32) :
    sout0_A_0 c i a1 h1 a2 h2 a3 h3 a4 h4 a5 h5 hc0 hc1 x y
      = fun _ => k0_pay6 x y (Scalar.ofBits .f32 0x00000000#32) := by
  unfold sout0_A_0
  rw [View.read_writes_eq_canon _ _ _ (scover0_A_0 c i a1 h1 a2 h2 a3 h3 a4 h4 a5 h5 hc0 hc1 x y)]
  unfold kernelRun0_A
  dsimp only
  sl_unfold_words
  rw [View.canon_cons_unit_zero (S := S1) off1]
  simp only [View.readAt_eq_ld, h1.read_unread, h2.read_unread, View.ld_unit_zero (S := S512x1000) off2]
  rfl

/-- A middle point leaves the clipped softmax of its block of logits. -/
theorem mid_pred (hc0 : ¬cond0_0 i) (hc1 : ¬cond0_1 i) (x y : Vec F S512x1000 .f32) (s : Vec F S1 .f32) :
    out0_B_2 c i a1 h1 a2 h2 a3 h3 a4 h4 a5 h5 hc0 hc1 x y s = k0_pay5 x := by
  unfold out0_B_2
  rw [View.read_writes_eq_canon _ _ _ (cover0_B_2 c i a1 h1 a2 h2 a3 h3 a4 h4 a5 h5 hc0 hc1 x y s)]
  unfold kernelRun0_B
  dsimp only
  sl_unfold_words
  rw [View.canon_unit_zero off2]
  simp only [View.readAt_eq_ld, h1.read_unread, h2.read_unread, View.ld_unit_zero (S := S512x1000) off2]

/-- A middle point adds its block's cross entropy to the running sum. -/
theorem mid_sum (hc0 : ¬cond0_0 i) (hc1 : ¬cond0_1 i) (x y : Vec F S512x1000 .f32) (s : Vec F S1 .f32) :
    sout0_B_0 c i a1 h1 a2 h2 a3 h3 a4 h4 a5 h5 hc0 hc1 x y s = fun _ => k0_pay6 x y (s word) := by
  unfold sout0_B_0
  rw [View.read_writes_eq_canon _ _ _ (scover0_B_0 c i a1 h1 a2 h2 a3 h3 a4 h4 a5 h5 hc0 hc1 x y s)]
  unfold kernelRun0_B
  dsimp only
  sl_unfold_words
  rw [View.canon_unit_zero (S := S1) off1]
  simp only [View.readAt_eq_ld, h1.read_unread, h2.read_unread, h5.read_unread, View.ld_unit_zero (S := S512x1000) off2]
  rw [View.ld_unit_zero (S := S1) off1]
  rfl

/-- The last point leaves the clipped softmax of its block of logits. -/
theorem last_pred (hc0 : ¬cond0_0 i) (hc1 : cond0_1 i) (x y : Vec F S512x1000 .f32) (s : Vec F S1 .f32) :
    out0_C_2 c i a1 h1 a2 h2 a3 h3 a4 h4 a5 h5 hc0 hc1 x y s = k0_pay5 x := by
  unfold out0_C_2
  rw [View.read_writes_eq_canon _ _ _ (cover0_C_2 c i a1 h1 a2 h2 a3 h3 a4 h4 a5 h5 hc0 hc1 x y s)]
  unfold kernelRun0_C
  dsimp only
  sl_unfold_words
  rw [View.canon_unit_zero off2]
  simp only [View.readAt_eq_ld, h1.read_unread, h2.read_unread, View.ld_unit_zero (S := S512x1000) off2]

/-- The last point writes the finished running sum, scaled, to the loss word. -/
theorem last_loss (hc0 : ¬cond0_0 i) (hc1 : cond0_1 i) (x y : Vec F S512x1000 .f32) (s : Vec F S1 .f32) :
    out0_C_3 c i a1 h1 a2 h2 a3 h3 a4 h4 a5 h5 hc0 hc1 x y s = fun _ => k0_pay1 (k0_pay6 x y (s word)) := by
  unfold out0_C_3
  rw [View.read_writes_eq_canon _ _ _ (cover0_C_3 c i a1 h1 a2 h2 a3 h3 a4 h4 a5 h5 hc0 hc1 x y s)]
  unfold kernelRun0_C
  dsimp only
  sl_unfold_words
  rw [View.canon_unit_zero (S := S1) off1]
  simp only [View.readAt_eq_ld, h1.read_unread, h2.read_unread, h5.read_unread, View.ld_unit_zero (S := S512x1000) off2]
  rw [View.ld_unit_zero (S := S1) off1]
  rfl

/-- The last point too adds its block's cross entropy to the running sum. -/
theorem last_sum (hc0 : ¬cond0_0 i) (hc1 : cond0_1 i) (x y : Vec F S512x1000 .f32) (s : Vec F S1 .f32) :
    sout0_C_0 c i a1 h1 a2 h2 a3 h3 a4 h4 a5 h5 hc0 hc1 x y s = fun _ => k0_pay6 x y (s word) := by
  unfold sout0_C_0
  rw [View.read_writes_eq_canon _ _ _ (scover0_C_0 c i a1 h1 a2 h2 a3 h3 a4 h4 a5 h5 hc0 hc1 x y s)]
  unfold kernelRun0_C
  dsimp only
  sl_unfold_words
  rw [View.canon_unit_zero (S := S1) off1]
  simp only [View.readAt_eq_ld, h1.read_unread, h2.read_unread, h5.read_unread, View.ld_unit_zero (S := S512x1000) off2]
  rw [View.ld_unit_zero (S := S1) off1]
  rfl

end Cases

/-! ## The points in turn -/

variable (m : (ℓ : Loc nD τ sig) → Buf (Elt F) ℓ)

/-- The running sum after point `n`: the cross entropies of the blocks at points `0 … n`, added in that order to zero. -/
def total (c : Dev nD) : (n : ℕ) → n < cfg0.N → F .f32
  | 0, h => k0_pay6 (iblk m c 0 ⟨0, h⟩) (iblk m c 1 ⟨0, h⟩) (Scalar.ofBits .f32 0x00000000#32)
  | n + 1, h => k0_pay6 (iblk m c 0 ⟨n + 1, h⟩) (iblk m c 1 ⟨n + 1, h⟩) (total c n (Nat.lt_of_succ_lt h))

/-- After point `n` the carried scratch word holds the running sum. -/
theorem scratch_eq (c : Dev nD) : ∀ (n : ℕ) (h : n < cfg0.N), (outsAt0 m c n h).2.2 = fun _ => total m c n h
  | 0, h => by
    rw [outsAt0_A m c ⟨0, h⟩ rfl (by dsimp only; omega)]
    dsimp only
    exact first_sum ..
  | n + 1, h => by
    have hN : n + 1 < 32 := lt_of_lt_of_eq h (show cfg0.N = 32 from N_0)
    have h0 : ¬(n + 1) % 32 = 0 := by omega
    have ih := scratch_eq c n (Nat.lt_of_succ_lt h)
    by_cases h1 : (n + 1) % 32 = 31
    · rw [outsAt0_C m c ⟨n + 1, h⟩ h0 h1]
      dsimp only
      rw [last_sum]
      show (fun _ => k0_pay6 _ _ ((outsAt0 m c n _).2.2 word)) = _
      rw [ih]
      rfl
    · rw [outsAt0_B m c ⟨n + 1, h⟩ h0 h1]
      dsimp only
      rw [mid_sum]
      show (fun _ => k0_pay6 _ _ ((outsAt0 m c n _).2.2 word)) = _
      rw [ih]
      rfl

/-- After every point the block of the second result holds the clipped softmax of that point's block of logits. -/
theorem pred_eq (c : Dev nD) (t : Fin cfg0.N) : (outsAt0 m c t.val t.isLt).1 = k0_pay5 (iblk m c 0 t) := by
  by_cases h0 : t.val % 32 = 0
  · rw [outsAt0_A m c t h0 (by omega)]
    dsimp only
    exact first_pred ..
  · by_cases h1 : t.val % 32 = 31
    · rw [outsAt0_C m c t h0 h1]
      dsimp only
      exact last_pred ..
    · rw [outsAt0_B m c t h0 h1]
      dsimp only
      exact mid_pred ..

/-- After the last point the loss word holds the running sum, scaled. -/
theorem loss_eq (c : Dev nD) (t : Fin cfg0.N) (h1 : t.val % 32 = 31) :
    (outsAt0 m c t.val t.isLt).2.1 = fun _ => k0_pay1 (total m c t.val t.isLt) := by
  obtain ⟨n, hn⟩ := t
  cases n with
  | zero => exact absurd h1 (by dsimp only; omega)
  | succ n =>
    rw [outsAt0_C m c ⟨n + 1, hn⟩ (by omega) h1]
    dsimp only
    rw [last_loss]
    show (fun _ => k0_pay1 (k0_pay6 _ _ ((outsAt0 m c n _).2.2 word))) = _
    rw [scratch_eq m c n]
    rfl

end Cert.KernelIdeal.Body

end
-- ==== Proof.Arrays.lean ====
/-
  What the kernel's two results hold when it has run, as values of its two arguments.

  The blocks of 512 rows tile the 16384 rows of the logits, of the labels and of the second result, so the second result
  is the clipped softmax block by block. The loss is one word, written by the last grid point alone.
-/
module

public import proofs.«01_k».proof.Proof.Body
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Arrays

open Cert.KernelIdeal Cert.KernelIdeal.Gen Cert.KernelIdeal.Body
open Idealize.ShloMosaic Idealize.ShloMosaic.TcCoe Idealize.SL.Sem
open Idealize.ShloMosaic.Pipeline (Dat)

variable {F : FTy → Type} [FloatOps F]

/-- Row `r` of the block of rows number `t`, as a row of the whole array. -/
abbrev rowOf (t : Fin 32) (r : Fin 512) : Fin 16384 := ⟨512 * t.val + r.val, by omega⟩

/-- The block of rows number `t` of a whole array. -/
def rows (X : Vec F S16384x1000 .f32) (t : Fin 32) : Vec F S512x1000 .f32 :=
  fun j => X (ix2 (rowOf t (j 0)) (j 1))

/-- The second result: at every place, the clipped softmax of the block of rows the place lies in. -/
def pred (X : Vec F S16384x1000 .f32) : Vec F S16384x1000 .f32 := fun i =>
  k0_pay5 (rows X ⟨(i 0).val / 512, by have : (i 0).val < 16384 := (i 0).isLt; omega⟩)
    (ix2 ⟨(i 0).val % 512, by omega⟩ (i 1))

/-- The running sum of the blocks' cross entropies, as far as block `n`. -/
def sumTo (X Y : Vec F S16384x1000 .f32) : (n : ℕ) → n < 32 → F .f32
  | 0, h => k0_pay6 (rows X ⟨0, h⟩) (rows Y ⟨0, h⟩) (Scalar.ofBits .f32 0x00000000#32)
  | n + 1, h => k0_pay6 (rows X ⟨n + 1, h⟩) (rows Y ⟨n + 1, h⟩) (sumTo X Y n (Nat.lt_of_succ_lt h))

variable (m : (ℓ : Loc nD τ sig) → Buf (Elt F) ℓ)

/-- At point `t` the three blocks of rows are block number `t`, from the first column. -/
theorem block_index : ∀ t : Fin grid0.N, (win0_0.index t 0 = t.val ∧ win0_0.index t 1 = 0)
    ∧ (win0_1.index t 0 = t.val ∧ win0_1.index t 1 = 0) ∧ (win0_2.index t 0 = t.val ∧ win0_2.index t 1 = 0) := by
  decide +kernel

/-- A grid point, as the number of a block of rows. -/
abbrev nth (t : Fin cfg0.N) : Fin 32 := ⟨t.val, lt_of_lt_of_eq t.isLt N_0⟩

/-- The block of logits point `t` reads is block number `t` of the logits. -/
theorem logits_block (c : Dev nD) (t : Fin cfg0.N) :
    (iblk m c 0 t : Vec F S512x1000 .f32) = rows (m ((c : Thread nD τ).loc main_arg1)) (nth t) := by
  have hi := (block_index t).1
  funext j
  unfold iblk rows
  rw [View.read_apply]
  show V m c main_arg1 _ = m ((c : Thread nD τ).loc main_arg1) _
  unfold V
  congr 1
  funext a
  apply Fin.ext
  match a with
  | ⟨0, _⟩ => show win0_0.index t 0 * 512 + 1 * (j 0).val = 512 * t.val + (j 0).val; rw [hi.1]; omega
  | ⟨1, _⟩ => show win0_0.index t 1 * 1000 + 1 * (j 1).val = (j 1).val; rw [hi.2]; omega

/-- The block of labels point `t` reads is block number `t` of the labels. -/
theorem labels_block (c : Dev nD) (t : Fin cfg0.N) :
    (iblk m c 1 t : Vec F S512x1000 .f32) = rows (m ((c : Thread nD τ).loc main_arg2)) (nth t) := by
  have hi := (block_index t).2.1
  funext j
  unfold iblk rows
  rw [View.read_apply]
  show V m c main_arg2 _ = m ((c : Thread nD τ).loc main_arg2) _
  unfold V
  congr 1
  funext a
  apply Fin.ext
  match a with
  | ⟨0, _⟩ => show win0_1.index t 0 * 512 + 1 * (j 0).val = 512 * t.val + (j 0).val; rw [hi.1]; omega
  | ⟨1, _⟩ => show win0_1.index t 1 * 1000 + 1 * (j 1).val = (j 1).val; rw [hi.2]; omega

/-- The running sum the points carry is the running sum over the arguments' blocks. -/
theorem total_eq (c : Dev nD) : ∀ (n : ℕ) (h : n < cfg0.N), total m c n h
    = sumTo (m ((c : Thread nD τ).loc main_arg1)) (m ((c : Thread nD τ).loc main_arg2)) n (lt_of_lt_of_eq h N_0)
  | 0, h => by rw [total, sumTo, logits_block, labels_block]
  | n + 1, h => by rw [total, sumTo, logits_block, labels_block, total_eq c n]

/-- The blocks of rows written back tile the second result, which ends at the clipped softmax. -/
theorem pred_final (c : Dev nD) : (dats m 0 c).arrAt 2 cfg0.N = pred (m ((c : Thread nD τ).loc main_arg1)) := by
  refine (dats m 0 c).arrAt_eq_of_covers 2 _ (by decide +kernel) fun t hf y => ?_
  have hi := (block_index t).2.2
  blk_simp
  rw [after0_2, pred_eq, logits_block]
  have hy0 : (y 0).val < 512 := (y 0).isLt
  have e0 : (((win0_2.blk t).view.emb y) 0).val = 512 * t.val + (y 0).val := by
    show win0_2.index t 0 * 512 + 1 * (y 0).val = _
    rw [hi.1]; omega
  have e1 : (((win0_2.blk t).view.emb y) 1).val = (y 1).val := by
    show win0_2.index t 1 * 1000 + 1 * (y 1).val = _
    rw [hi.2]; omega
  unfold pred
  congr 1
  · congr 1
    congr 1
    apply Fin.ext
    show t.val = _ / 512
    rw [e0]; omega
  · funext a
    apply Fin.ext
    match a with
    | ⟨0, _⟩ => show (y 0).val = _ % 512; rw [e0]; omega
    | ⟨1, _⟩ => exact e1.symm

/-- The last point's write-back is the whole loss word, which ends at the running sum, scaled. -/
theorem loss_final (c : Dev nD) : (dats m 0 c).arrAt 3 cfg0.N
    = fun _ => k0_pay1 (sumTo (m ((c : Thread nD τ).loc main_arg1)) (m ((c : Thread nD τ).loc main_arg2)) 31 (by decide)) := by
  refine (dats m 0 c).arrAt_eq_of_covers 3 _ (by decide +kernel) fun t hf y => ?_
  have h31 : t.val % 32 = 31 := (flush0_3 t).mp hf
  have hn : t.val = 31 := by have := lt_of_lt_of_eq t.isLt N_0; omega
  blk_simp
  rw [after0_3, loss_eq m c t h31, total_eq]
  show k0_pay1 (sumTo _ _ t.val _) = k0_pay1 (sumTo _ _ 31 _)
  congr 2

/-- The host's last line copies the loss word to the scalar result. -/
theorem loss_scalar (c : Dev nD) : Pipeline.afterTail₀ cfgs (dats m) 0 (V0 m) [hostOps1] c main_v0_0
    = fun _ => k0_pay1 (sumTo (m ((c : Thread nD τ).loc main_arg1)) (m ((c : Thread nD τ).loc main_arg2)) 31 (by decide)) := by
  have h := Pipeline.withArrays_arr (cfgs 0).spec (by decide) c (V0 m c) (fun w => (dats m 0 c).arrAt w (cfgs 0).N) 3
  rw [show (dats m 0 c).arrAt 3 (cfgs 0).N = _ from loss_final m c] at h
  unfold Pipeline.afterTail₀
  simp only [hostOps1, List.flatten_cons, List.flatten_nil, List.append_nil]
  after_results
  funext i
  exact congrFun (congrArg (fun w : Vec F S1 .f32 => shapeCast S_ w shapeCasts_S1_S_) h) i

/-- The run of the kernel, read: the loss is the running sum over the 32 blocks, scaled; the second result is the clipped
    softmax; the arguments are unchanged. -/
theorem run (ρ : Dev nD → PrngReg) : θ_run defs (onTc (τ := τ) (main (F := F))) ⟨m, fun _ => 0, ρ⟩ fun r => ∀ c : Dev nD,
      r.2.mem ((c : Thread nD τ).loc main_v0_0)
        = (fun _ => k0_pay1 (sumTo (m ((c : Thread nD τ).loc main_arg1)) (m ((c : Thread nD τ).loc main_arg2)) 31 (by decide)))
      ∧ r.2.mem ((c : Thread nD τ).loc main_v0_1) = pred (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  run_from (run_main m ρ)
  · exact loss_scalar m c
  · exact pred_final m c
  · exact W_main_arg0 m (dats m) c

end Cert.KernelIdeal.Arrays

end
-- ==== Proof.Softmax.lean ====
/-
  The mathematics of the clipped softmax and of the cross entropy of one row, over the extended reals, and its reading
  on a row of real numbers. Nothing here mentions a program.
-/
module

public import Idealize.ShloMosaic.PureOps.Ideal
public import Mathlib.Data.EReal.Operations

@[expose] public section

noncomputable section

namespace Cert.Softmax

open Idealize.ShloMosaic

/-- The greatest entry of a row. -/
def top (v : Fin 1000 → EReal) : EReal := Finset.univ.fold max ⊥ v

/-- The exponential of an entry less the greatest entry. -/
def expo (v : Fin 1000 → EReal) (k : Fin 1000) : EReal := Ideal.exp (v k - top v)

/-- The sum of a row's exponentials. -/
def mass (v : Fin 1000 → EReal) : EReal := ∑ k, expo v k

/-- The softmax of an entry, clipped to the range from the f32 word nearest 0.0001 to the f32 word nearest 0.9999. -/
def clipped (v : Fin 1000 → EReal) (k : Fin 1000) : EReal :=
  min (Ideal.ofBits .f32 0x3F7FF972#32) (max (Ideal.ofBits .f32 0x38D1B717#32) (Ideal.div (expo v k) (mass v)))

/-- The cross entropy of a row as the reference writes it: less the sum of the labels times the log softmax. -/
def cross (v y : Fin 1000 → EReal) : EReal := -∑ k, y k * ((v k - top v) - Ideal.log (mass v))

/-- The first half of a row's cross entropy as the kernel writes it: the labels' sum times the log of the summed
    exponentials. -/
def whole (v y : Fin 1000 → EReal) : EReal := (∑ k, y k) * (top v + Ideal.log (mass v))

/-! ## On a row of real numbers -/

/-- A finite sum of reals, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest entry of a row of reals, as a real. -/
def topR (v : Fin 1000 → ℝ) : ℝ := (top fun k => (v k : EReal)).toReal

/-- The greatest entry of a row of reals is real. -/
theorem top_coe (v : Fin 1000 → ℝ) : top (fun k => (v k : EReal)) = (topR v : EReal) := by
  refine (EReal.coe_toReal (ne_of_lt ?_) (ne_of_gt ?_)).symm
  · exact Finset.fold_max_lt _ |>.mpr ⟨bot_lt_top, fun k _ => EReal.coe_lt_top _⟩
  · exact Finset.lt_fold_max _ |>.mpr (Or.inr ⟨0, Finset.mem_univ _, EReal.bot_lt_coe _⟩)

/-- The sum of a row's exponentials, as a real. -/
def massR (v : Fin 1000 → ℝ) : ℝ := ∑ k, Real.exp (v k - topR v)

/-- The sum of a row's exponentials is positive. -/
theorem massR_pos (v : Fin 1000 → ℝ) : 0 < massR v :=
  Finset.sum_pos (fun k _ => Real.exp_pos _) ⟨0, Finset.mem_univ _⟩

/-- The sum of the exponentials of a row of reals is real. -/
theorem mass_coe (v : Fin 1000 → ℝ) : mass (fun k => (v k : EReal)) = (massR v : EReal) := by
  unfold mass massR expo
  rw [coe_sum]
  refine Finset.sum_congr rfl fun k _ => ?_
  rw [top_coe, ← EReal.coe_sub, Ideal.exp_coe]

/-- Its logarithm is the real logarithm. -/
theorem log_mass_coe (v : Fin 1000 → ℝ) : Ideal.log (mass fun k => (v k : EReal)) = (Real.log (massR v) : EReal) := by
  rw [mass_coe, Ideal.log_coe, if_neg (not_le.mpr (massR_pos v))]

/-- The cross entropy of a row of reals, as a real. -/
def crossR (v y : Fin 1000 → ℝ) : ℝ := (∑ k, y k) * (topR v + Real.log (massR v)) - ∑ k, y k * v k

/-- The kernel's first half, on a row of reals. -/
theorem whole_coe (v y : Fin 1000 → ℝ) : whole (fun k => (v k : EReal)) (fun k => (y k : EReal))
    = (((∑ k, y k) * (topR v + Real.log (massR v)) : ℝ) : EReal) := by
  unfold whole
  rw [log_mass_coe, top_coe, ← coe_sum, ← EReal.coe_add, ← EReal.coe_mul]

/-- The reference's cross entropy of a row of reals is the kernel's: the labels distribute over the log softmax. -/
theorem cross_coe (v y : Fin 1000 → ℝ) : cross (fun k => (v k : EReal)) (fun k => (y k : EReal)) = (crossR v y : EReal) := by
  have h : crossR v y = -∑ k, y k * ((v k - topR v) - Real.log (massR v)) := by
    unfold crossR
    rw [Finset.sum_mul, ← Finset.sum_sub_distrib, ← Finset.sum_neg_distrib]
    exact Finset.sum_congr rfl fun k _ => by ring
  rw [h, EReal.coe_neg, coe_sum]
  unfold cross
  refine congrArg Neg.neg (Finset.sum_congr rfl fun k _ => ?_)
  rw [log_mass_coe, top_coe, ← EReal.coe_sub, ← EReal.coe_sub, ← EReal.coe_mul]

end Cert.Softmax

end
-- ==== Proof.Rows.lean ====
/-
  What the kernel's body computes from a block, read at a row: the clipped softmax of the row, and the block's cross
  entropy as a sum over its rows.
-/
module

public import proofs.«01_k».proof.Proof.Softmax
public import proofs.«01_k».proof.Proof.Arrays
public import Idealize.ShloMosaic.Lib.Pointwise
public import Idealize.ShloMosaic.PureOps.Ideal.Laws

@[expose] public section

set_option maxRecDepth 16384

noncomputable section

namespace Cert.KernelIdeal.Rows

open Cert.KernelIdeal Cert.KernelIdeal.Gen Cert.Softmax
open Idealize.ShloMosaic

/-- The word a maximum starts from is the least extended real. -/
theorem least : Ideal.ofBits .f32 0xFF800000#32 = ⊥ := by
  simp [Ideal.ofBits, Ideal.ieee]

/-- The word the reference divides by is the number of rows. -/
theorem count : Ideal.ofBits .f32 0x46800000#32 = ((16384 : ℝ) : EReal) := by
  simp [Ideal.ofBits, Ideal.ieee, -EReal.coe_mul]
  norm_num

/-- The word the kernel multiplies by is its reciprocal. -/
theorem recip : Ideal.ofBits .f32 0x38800000#32 = ((1 / 16384 : ℝ) : EReal) := by
  simp [Ideal.ofBits, Ideal.ieee, -EReal.coe_mul]
  norm_num

/-- Row `r` of a block. -/
abbrev row (x : Vec Ideal S512x1000 .f32) (r : Fin 512) : Fin 1000 → EReal := fun k => x (ix2 r k)

/-- A block's maximum along its columns, at a row. -/
theorem pay2_row (x : Vec Ideal S512x1000 .f32) (r : Fin 512) : k0_pay2 x (ix2 r 0) = top (row x r) := by
  unfold k0_pay2
  pointwise
  rw [least]
  rfl

/-- A block's sum of exponentials along its columns, at a row. -/
theorem pay4_row (x : Vec Ideal S512x1000 .f32) (r : Fin 512) : k0_pay4 x (ix2 r 0) = mass (row x r) := by
  unfold k0_pay4 k0_pay3
  pointwise
  simp only [pay2_row]
  rfl

/-- The block the body writes to the second result, at a row and a column. -/
theorem pay5_row (x : Vec Ideal S512x1000 .f32) (r : Fin 512) (k : Fin 1000) :
    k0_pay5 x (ix2 r k) = clipped (row x r) k := by
  unfold k0_pay5 k0_pay3
  pointwise
  simp only [pay2_row, pay4_row]
  rfl

/-- What the body adds to the running sum. -/
theorem pay6_rows (x y : Vec Ideal S512x1000 .f32) (s : EReal) : k0_pay6 x y s
    = s + ((∑ r, whole (row x r) (row y r)) - ∑ r, ∑ k, row y r k * row x r k) := by
  unfold k0_pay6
  pointwise
  simp only [pay2_row, pay4_row, Fin.sum_univ_one]
  rfl

/-- The word the body writes to the first result, from the finished sum. -/
theorem pay1_eq (s : EReal) : k0_pay1 (F := Ideal) s = s * ((1 / 16384 : ℝ) : EReal) :=
  congrArg (s * ·) recip

end Cert.KernelIdeal.Rows

end
-- ==== Proof.RefRows.lean ====
/-
  What the reference computes, read at a row: the clipped softmax of the row, its cross entropy, and the loss as the mean
  of the cross entropies, the regularizer being zero.
-/
module

public import proofs.«01_k».proof.Proof.Rows
public import proofs.«01_k».proof.Proof.Gen.ReferenceIdeal.Read
public import Idealize.ShloMosaic.Lib.Pointwise
public import Idealize.ShloMosaic.Lib.ValueIdxRank1

@[expose] public section

set_option maxRecDepth 16384

noncomputable section

namespace Cert.ReferenceIdeal.Rows

open Cert.ReferenceIdeal Cert.ReferenceIdeal.Gen Cert.ReferenceIdeal.Read Cert.Softmax
open Idealize.ShloMosaic

/-- Row `i` of an array. -/
abbrev row (X : Vec Ideal S16384x1000 .f32) (i : Fin 16384) : Fin 1000 → EReal := fun k => X (ix2 i k)

/-- The maximum of the logits along the columns, at a row. -/
theorem top_row (X : Vec Ideal S16384x1000 .f32) (i : Fin 16384) : val_main_v2 X (ix1 i) = top (row X i) := by
  have h : val_main_v0 X (ix1 i) = top (row X i) := by
    unfold val_main_v0
    refine (Host.reduce_eq_fold_single (s := S16384x1000) (t := S16384) (a := 1) (u := S_)
      (max : EReal → EReal → EReal) X _ _ (by decide) _ _).trans ?_
    rw [val_main_cst_apply]
    show Finset.fold max (Ideal.ofBits .f32 0xFF800000#32) _ _ = _
    rw [Cert.KernelIdeal.Rows.least]
    unfold top
    refine congrArg (fun f => Finset.fold max ⊥ f Finset.univ) (funext fun k => ?_)
    exact congrArg X (funext fun a => Fin.ext (by match a with | ⟨0, _⟩ => rfl | ⟨1, _⟩ => rfl))
  rw [val_main_v2_apply, h, val_main_v1_apply, val_main_cst_0_apply]
  show max (Ideal.ofBits .f32 0xFF800000#32) _ = _
  rw [Cert.KernelIdeal.Rows.least]
  exact max_bot_left _

/-- An exponential of the reference, at a row and a column. -/
theorem expo_row (X : Vec Ideal S16384x1000 .f32) (i : Fin 16384) (k : Fin 1000) :
    val_main_v6 X (ix2 i k) = expo (row X i) k := by
  unfold val_main_v6 val_main_v5 val_main_v4 val_main_v3
  pointwise
  rw [top_row]
  rfl

/-- The second result of the reference, at a row and a column. -/
theorem clipped_row (X : Vec Ideal S16384x1000 .f32) (i : Fin 16384) (k : Fin 1000) :
    val_main_v11 X (ix2 i k) = clipped (row X i) k := by
  unfold val_main_v11 val_main_call0_v4 val_main_call0_v3 val_main_call0_v2 val_main_call0_v1 val_main_call0_v0
    val_main_v10 val_main_v9 val_main_v8 val_main_v7 val_main_cst_3 val_main_cst_2 val_main_cst_1
  pointwise
  simp only [expo_row]
  rfl

/-- The log softmax's difference from the maximum is the softmax's. -/
theorem shifted_again (X : Vec Ideal S16384x1000 .f32) : val_main_call1_v5 X = val_main_v5 X := rfl

/-- The log softmax's exponentials are the softmax's. -/
theorem expo_again (X : Vec Ideal S16384x1000 .f32) : val_main_call1_v6 X = val_main_v6 X := rfl

/-- A difference from the maximum, at a row and a column. -/
theorem shifted_row (X : Vec Ideal S16384x1000 .f32) (i : Fin 16384) (k : Fin 1000) :
    val_main_v5 X (ix2 i k) = row X i k - top (row X i) := by
  unfold val_main_v5 val_main_v4 val_main_v3
  pointwise
  rw [top_row]

/-- The cross entropy the reference computes at a row. -/
theorem cross_row (X Y : Vec Ideal S16384x1000 .f32) (i : Fin 16384) :
    val_main_v15 X Y (ix1 i) = cross (row X i) (row Y i) := by
  unfold val_main_v15 val_main_v14 val_main_v13 val_main_v12 val_main_call1_v10 val_main_call1_v9 val_main_call1_v8
    val_main_call1_v7 val_main_cst_4 val_main_call1_cst_1
  rw [shifted_again, expo_again]
  pointwise
  simp only [expo_row, shifted_row]
  rfl

/-- The regularizer multiplies each entry by zero, so a row's logarithm is that of one, which is zero. -/
theorem penalty_row (X : Vec Ideal S16384x1000 .f32) (i : S16384.Idx) : val_main_v23 X i = 0 := by
  have h19 : ∀ j, val_main_v19 X j = 0 := fun j => by
    rw [val_main_v19_apply, val_main_v18_apply, val_main_cst_7_apply]
    show Ideal.ofBits .f32 0x00000000#32 * _ = _
    rw [Ideal.ofBits_zero_f32, zero_mul]
  have h20 : val_main_v20 X i = 0 := by
    rw [val_main_v20_apply, val_main_cst_8_apply]
    simp only [h19]
    show Ideal.ofBits .f32 0x00000000#32 + _ = _
    rw [Ideal.ofBits_zero_f32, Finset.sum_const_zero, add_zero]
  rw [val_main_v23_apply, val_main_v22_apply, h20, val_main_v21_apply, val_main_cst_9_apply]
  show Ideal.log (Ideal.ofBits .f32 0x3F800000#32 - 0) = 0
  rw [Ideal.ofBits_one_f32, sub_zero, ← EReal.coe_one, Ideal.log_coe]
  simp

/-- The regularizer is zero. -/
theorem penalty (X : Vec Ideal S16384x1000 .f32) (i : S_.Idx) : val_main_v27 X i = 0 := by
  have h24 : val_main_v24 X i = 0 := by
    rw [val_main_v24_apply, val_main_cst_10_apply]
    simp only [penalty_row]
    show Ideal.ofBits .f32 0x00000000#32 + _ = _
    rw [Ideal.ofBits_zero_f32, Finset.sum_const_zero, add_zero]
  have h25 : val_main_v25 X i = 0 := by
    rw [val_main_v25_apply, h24, val_main_cst_11_apply]
    show Ideal.div 0 (Ideal.ofBits .f32 0x46800000#32) = 0
    rw [Cert.KernelIdeal.Rows.count, Ideal.div_coe (by norm_num), zero_mul]
  rw [val_main_v27_apply, val_main_v26_apply, h25]
  show _ * (_ * (0 : EReal)) = 0
  rw [mul_zero, mul_zero]

/-- The first result of the reference: the rows' cross entropies summed, over their number. -/
theorem loss (X Y : Vec Ideal S16384x1000 .f32) (i : S_.Idx) :
    val_main_v28 X Y i = (∑ j, cross (row X j) (row Y j)) * ((1 / 16384 : ℝ) : EReal) := by
  have h16 : val_main_v16 X Y i = ∑ j, cross (row X j) (row Y j) := by
    rw [val_main_v16_apply, val_main_cst_5_apply]
    show Ideal.ofBits .f32 0x00000000#32 + _ = _
    rw [Ideal.ofBits_zero_f32, zero_add]
    refine Fintype.sum_equiv ValueIdx.idxEquiv1 _ _ fun j => ?_
    exact (congrArg (val_main_v15 X Y) (eq_ix1 j)).trans (cross_row X Y (j 0))
  rw [val_main_v28_apply, penalty, val_main_v17_apply, h16, val_main_cst_6_apply]
  show Ideal.div _ (Ideal.ofBits .f32 0x46800000#32) + 0 = _
  rw [Cert.KernelIdeal.Rows.count, Ideal.div_coe (by norm_num), add_zero]

end Cert.ReferenceIdeal.Rows

end
-- ==== Proof.Equal.lean ====
/-
  The two results of the kernel are the reference's: the clipped softmax at every argument, the loss at real arguments.
-/
module

public import proofs.«01_k».proof.Proof.RefRows
public import proofs.«01_k».proof.Pre_finite

@[expose] public section

set_option maxRecDepth 16384

noncomputable section

namespace Cert.Equal

open Cert.KernelIdeal Cert.KernelIdeal.Gen Cert.Softmax
open Cert.KernelIdeal.Arrays (rowOf rows pred sumTo)
open Cert.ReferenceIdeal.Read (val_main_v11 val_main_v28)
open Idealize.ShloMosaic

/-- A row of a block of rows is a row of the whole array. -/
theorem row_rows (X : Vec Ideal S16384x1000 .f32) (t : Fin 32) (r : Fin 512) :
    Rows.row (rows X t) r = ReferenceIdeal.Rows.row X (rowOf t r) := rfl

/-- The second results agree, whatever the logits: row `i` of the array is row `i % 512` of block `i / 512`. -/
theorem pred_eq (X : Vec Ideal S16384x1000 .f32) : pred X = val_main_v11 X := by
  funext i
  have hi : (i 0).val < 16384 := (i 0).isLt
  have e : rowOf ⟨(i 0).val / 512, by omega⟩ ⟨(i 0).val % 512, by omega⟩ = (i 0 : Fin 16384) :=
    Fin.ext (by show 512 * ((i 0).val / 512) + (i 0).val % 512 = (i 0).val; omega)
  refine (Rows.pay5_row _ _ (i 1)).trans ?_
  rw [row_rows, e]
  exact ((congrArg (val_main_v11 X) (eq_ix2 i)).trans (ReferenceIdeal.Rows.clipped_row X (i 0) (i 1))).symm

/-! ## The loss, at real logits and labels -/

variable (x y : Fin 16384 → Fin 1000 → ℝ)

/-- An array of reals, as a value of the programs. -/
def lift (x : Fin 16384 → Fin 1000 → ℝ) : Vec Ideal S16384x1000 .f32 := fun i => ((x (i 0) (i 1) : ℝ) : EReal)

/-- A row of an array of reals is a row of reals. -/
theorem row_lift (i : Fin 16384) : ReferenceIdeal.Rows.row (lift x) i = fun k => ((x i k : ℝ) : EReal) := rfl

/-- The kernel adds to its running sum the cross entropies of the block's rows: on reals, the difference of the block's
    two sums is the sum of the rows' differences. -/
theorem block_sum (t : Fin 32) (s : ℝ) : k0_pay6 (rows (lift x) t) (rows (lift y) t) (s : EReal)
    = ((s + ∑ r, crossR (x (rowOf t r)) (y (rowOf t r)) : ℝ) : EReal) := by
  have hw : ∀ r : Fin 512, whole (Rows.row (rows (lift x) t) r) (Rows.row (rows (lift y) t) r)
      = (((∑ k, y (rowOf t r) k) * (topR (x (rowOf t r)) + Real.log (massR (x (rowOf t r)))) : ℝ) : EReal) :=
    fun r => whole_coe (x (rowOf t r)) (y (rowOf t r))
  have hd : ∀ r : Fin 512, ∑ k, Rows.row (rows (lift y) t) r k * Rows.row (rows (lift x) t) r k
      = ((∑ k, y (rowOf t r) k * x (rowOf t r) k : ℝ) : EReal) := fun r => by
    rw [coe_sum]
    exact Finset.sum_congr rfl fun k _ => (EReal.coe_mul _ _).symm
  rw [Rows.pay6_rows, Finset.sum_congr rfl fun r _ => hw r, Finset.sum_congr rfl fun r _ => hd r, ← coe_sum, ← coe_sum,
    ← EReal.coe_sub, ← EReal.coe_add, ← Finset.sum_sub_distrib]
  rfl

/-- The running sum after block `n` is the sum of the cross entropies of the rows so far. -/
theorem sumTo_eq (n : ℕ) (h : n < 32) : sumTo (lift x) (lift y) n h
    = ((∑ t : Fin (n + 1), ∑ r, crossR (x (rowOf ⟨t.val, by omega⟩ r)) (y (rowOf ⟨t.val, by omega⟩ r)) : ℝ) : EReal) := by
  induction n with
  | zero =>
    have h0 : (Scalar.ofBits .f32 0x00000000#32 : Ideal .f32) = ((0 : ℝ) : EReal) := Ideal.ofBits_zero_f32
    rw [sumTo, h0]
    refine (block_sum x y ⟨0, h⟩ 0).trans ?_
    rw [zero_add, Fin.sum_univ_one]
    rfl
  | succ n ih =>
    rw [sumTo, ih]
    refine (block_sum x y ⟨n + 1, h⟩ _).trans ?_
    rw [Fin.sum_univ_castSucc (n := n + 1)]
    rfl

/-- The blocks' rows are the array's rows, each once. -/
theorem sum_rows (f : Fin 16384 → ℝ) : ∑ t : Fin 32, ∑ r : Fin 512, f (rowOf t r) = ∑ i, f i := by
  rw [← Fintype.sum_prod_type']
  refine Fintype.sum_equiv (finProdFinEquiv (m := 32) (n := 512)) _ _ fun p => congrArg f (Fin.ext ?_)
  show 512 * p.1.val + p.2.val = p.2.val + 512 * p.1.val
  omega

/-- The kernel's finished sum is the sum of the rows' cross entropies. -/
theorem sumTo_last : sumTo (lift x) (lift y) 31 (by decide) = ((∑ i, crossR (x i) (y i) : ℝ) : EReal) := by
  rw [← sum_rows fun i => crossR (x i) (y i)]
  exact sumTo_eq x y 31 (by decide)

/-- So is the reference's. -/
theorem sum_cross : ∑ i, cross (ReferenceIdeal.Rows.row (lift x) i) (ReferenceIdeal.Rows.row (lift y) i)
    = ((∑ i, crossR (x i) (y i) : ℝ) : EReal) := by
  rw [coe_sum]
  exact Finset.sum_congr rfl fun i _ => cross_coe (x i) (y i)

/-- The first results agree at real logits and labels. -/
theorem loss_lift (i : S_.Idx) :
    k0_pay1 (sumTo (lift x) (lift y) 31 (by decide)) = val_main_v28 (lift x) (lift y) i := by
  rw [sumTo_last, ReferenceIdeal.Rows.loss, sum_cross]
  exact Rows.pay1_eq _

/-! ## The precondition -/

/-- An entry whose magnitude is below infinity is real. -/
theorem real_of_lt (a : EReal) (h : Ideal.cmp .olt (max a (-a)) (Ideal.ofBits .f32 0x7F800000#32) = 1#1) :
    ((a.toReal : ℝ) : EReal) = a := by
  have hi : Ideal.ofBits .f32 0x7F800000#32 = ⊤ := by simp [Ideal.ofBits, Ideal.ieee]
  rw [hi] at h
  have hl : max a (-a) < ⊤ := by
    by_contra hn
    simp [Ideal.cmp, hn] at h
  refine EReal.coe_toReal (fun e => ?_) (fun e => ?_)
  · rw [e] at hl
    exact absurd hl (by simp)
  · rw [e] at hl
    exact absurd hl (by simp)

/-- An array each of whose entries is below infinity in magnitude is an array of reals. -/
theorem lift_of_lt (X : Vec Ideal S16384x1000 .f32)
    (h : ∀ j, Ideal.cmp .olt (max (X j) (-X j)) (Ideal.ofBits .f32 0x7F800000#32) = 1#1) :
    X = lift (fun i k => (X (ix2 i k)).toReal) := by
  funext j
  refine (real_of_lt (X j) (h j)).symm.trans ?_
  exact congrArg (fun q => ((EReal.toReal (X q) : ℝ) : EReal)) (eq_ix2 j)

/-- Under the precondition the logits and the labels are reals. -/
theorem real_of_pre [Pre_finite.Facts] (n : IVec S_ 32) (X Y : Vec Ideal S16384x1000 .f32)
    (h : Pre_finite.fn (F := Ideal) n X Y = fun _ => 1#1) :
    X = lift (fun i k => (X (ix2 i k)).toReal) ∧ Y = lift (fun i k => (Y (ix2 i k)).toReal) := by
  have hb : ∀ a b : BitVec 1, a &&& b = 1#1 → a = 1#1 ∧ b = 1#1 := by decide
  have hj := fun j => hb _ _ (congrFun h j)
  exact ⟨lift_of_lt X fun j => (hj j).1, lift_of_lt Y fun j => (hj j).2⟩

/-- Under the precondition the first results agree. -/
theorem loss_eq [Pre_finite.Facts] (n : IVec S_ 32) (X Y : Vec Ideal S16384x1000 .f32)
    (h : Pre_finite.fn (F := Ideal) n X Y = fun _ => 1#1) :
    (fun _ => k0_pay1 (sumTo X Y 31 (by decide))) = val_main_v28 X Y := by
  obtain ⟨hX, hY⟩ := real_of_pre n X Y h
  rw [hX, hY]
  exact funext fun i => loss_lift _ _ i

end Cert.Equal

end
-- ==== Proof.lean ====
/-
  The proof of `Cert.Claim`: the frames from the generated modules, the values from the kernel's run
  (`Proof.Arrays`), the reference's run (`Proof.Gen.ReferenceIdeal.Run`) and the equality of what they leave
  (`Proof.Equal`).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Arrays
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem

/-- The precondition's operations take shapes that fit. -/
theorem finite_facts : Cert.Pre_finite.Facts := ⟨by decide⟩

/-- The mask's operations take shapes that fit. -/
theorem mask_facts : Cert.On_y_pred_everywhere.Facts := ⟨by decide⟩

/-- The reference leaves its arguments as they were, and every semaphore at zero. -/
theorem reference_quiescent : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩)
    (Cert.ReferenceIdeal.Value.run (F := Ideal) m ρ)

/-- At finite logits and labels the kernel leaves the reference's loss and the reference's clipped softmax. -/
theorem values_finite : Cert.algebraic_KernelIdeal_ReferenceIdeal_pre_finite (hKernelIdeal := Cert.KernelIdeal.Gen.facts)
    (hReferenceIdeal := Cert.ReferenceIdeal.Gen.facts) (hPre_finite := finite_facts) := by
  letI := finite_facts
  intro m ρ m' ρ' hpre hagree
  refine ⟨fun c _ => Cert.KernelIdeal.Gen.k0_pay1 (Cert.KernelIdeal.Arrays.sumTo
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) 31 (by decide)),
    fun c => Cert.KernelIdeal.Arrays.pred
      (m ((c.tc : Thread Cert.KernelIdeal.nD Cert.KernelIdeal.τ).loc Cert.KernelIdeal.main_arg1)), (θ_run Cert.KernelIdeal.defs _ _).mono (fun r h c => ?_) (Cert.KernelIdeal.Arrays.run (F := Ideal) m ρ),
    (θ_run Cert.ReferenceIdeal.defs _ _).mono (fun r h c => ?_) (Cert.ReferenceIdeal.Value.run (F := Ideal) m' ρ')⟩
  · exact h c
  · refine ⟨(h c).1.trans ?_, (h c).2.1.trans ?_, (h c).2.2⟩
    · rw [Cert.ReferenceIdeal.Read.val_main_v28_eq, (hagree c).2.1, (hagree c).2.2]
      exact (Cert.Equal.loss_eq _ _ _ (hpre c)).symm
    · rw [Cert.ReferenceIdeal.Read.val_main_v11_eq, (hagree c).2.1]
      exact (Cert.Equal.pred_eq _).symm

/-- At every argument the kernel leaves the reference's clipped softmax; the mask leaves the loss out. -/
theorem values_everywhere : Cert.algebraic_KernelIdeal_ReferenceIdeal_on_y_pred_everywhere
    (hKernelIdeal := Cert.KernelIdeal.Gen.facts) (hReferenceIdeal := Cert.ReferenceIdeal.Gen.facts)
    (hOn_y_pred_everywhere := mask_facts) := by
  letI := mask_facts
  intro m ρ m' ρ' _ hagree
  refine ⟨fun c => m ((c.tc : Thread Cert.KernelIdeal.nD Cert.KernelIdeal.τ).loc Cert.KernelIdeal.main_v0_0),
    fun c => Cert.KernelIdeal.Arrays.pred
      (m ((c.tc : Thread Cert.KernelIdeal.nD Cert.KernelIdeal.τ).loc Cert.KernelIdeal.main_arg1)),
    (θ_run Cert.KernelIdeal.defs _ _).mono (fun r h c => ?_) (Cert.KernelIdeal.Arrays.run (F := Ideal) m ρ),
    (θ_run Cert.ReferenceIdeal.defs _ _).mono (fun r h c => ?_) (Cert.ReferenceIdeal.Value.run (F := Ideal) m' ρ')⟩
  · exact ⟨fun i hi => absurd (show (0#1 : BitVec 1) = 1#1 from hi) (by decide), fun i _ => congrFun (h c).2.1 i, (h c).2.2⟩
  · refine ⟨fun i hi => absurd (show (0#1 : BitVec 1) = 1#1 from hi) (by decide), fun i _ => congrFun ((h c).2.1.trans ?_) i,
      (h c).2.2⟩
    rw [Cert.ReferenceIdeal.Read.val_main_v11_eq, (hagree c).2.1]
    exact (Cert.Equal.pred_eq _).symm

/-- Everything the certificate claims. -/
theorem claim : Cert.Claim :=
  ⟨Cert.Kernel.Gen.facts, Cert.KernelIdeal.Gen.facts, Cert.ReferenceIdeal.Gen.facts, finite_facts, mask_facts,
    fun m ρ _ => Cert.Kernel.Gen.frame m ρ,
    fun m ρ _ => Cert.KernelIdeal.Gen.frame m ρ,
    fun m ρ _ => Cert.KernelIdeal.Gen.frame m ρ,
    reference_quiescent,
    fun m ρ _ => reference_quiescent m ρ trivial,
    trivial, values_finite, values_everywhere⟩

end Cert.Proof

end
